-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "r63" .f32 0x3C820821#32 ((63⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S4x16x1x16384 : Shape := ⟨4, ![4, 16, 1, 16384]⟩
abbrev S4x262144 : Shape := ⟨2, ![4, 262144]⟩
abbrev S_ : Shape := ⟨0, ![]⟩
abbrev S63 : Shape := ⟨1, ![63]⟩
abbrev S1 : Shape := ⟨1, ![1]⟩
abbrev S64 : Shape := ⟨1, ![64]⟩
abbrev S4x262144x1 : Shape := ⟨3, ![4, 262144, 1]⟩
abbrev S1x1x64 : Shape := ⟨3, ![1, 1, 64]⟩
abbrev S4x262144x64 : Shape := ⟨3, ![4, 262144, 64]⟩
abbrev S4x64x64 : Shape := ⟨3, ![4, 64, 64]⟩
abbrev S1x1x1x16384 : Shape := ⟨4, ![1, 1, 1, 16384]⟩
abbrev S1x64x64 : Shape := ⟨3, ![1, 64, 64]⟩
abbrev S1x16384 : Shape := ⟨2, ![1, 16384]⟩
abbrev S64x16384 : Shape := ⟨2, ![64, 16384]⟩
abbrev S64x64 : Shape := ⟨2, ![64, 64]⟩
abbrev S4x64 : Shape := ⟨2, ![4, 64]⟩
abbrev S4 : Shape := ⟨1, ![4]⟩
abbrev S4x1 : Shape := ⟨2, ![4, 1]⟩
abbrev S4x1x1 : Shape := ⟨3, ![4, 1, 1]⟩
abbrev S4x4096 : Shape := ⟨2, ![4, 4096]⟩

abbrev nBuf : Space → Nat
  | .hbm => 247
  | .vmem => 10
  | .smem => 0
  | _ => 0

abbrev hbmTy0_0 (i : Nat) : BufTy := match i % 128 with
  | 0 => ⟨S4x1x512x512, .f32⟩
  | 1 => ⟨S4x1x512x512, .f32⟩
  | 2 => ⟨S4x16x1x16384, .f32⟩
  | 3 => ⟨S4x16x1x16384, .f32⟩
  | 4 => ⟨S4x262144, .f32⟩
  | 5 => ⟨S_, .f32⟩
  | 6 => ⟨S_, .f32⟩
  | 7 => ⟨S_, .f32⟩
  | 8 => ⟨S4x262144, .f32⟩
  | 9 => ⟨S4x262144, .f32⟩
  | 10 => ⟨S_, .f32⟩
  | 11 => ⟨S4x262144, .f32⟩
  | 12 => ⟨S4x262144, .f32⟩
  | 13 => ⟨S4x262144, .f32⟩
  | 14 => ⟨S_, .f32⟩
  | 15 => ⟨S_, .f32⟩
  | 16 => ⟨S_, .f32⟩
  | 17 => ⟨S4x262144, .f32⟩
  | 18 => ⟨S4x262144, .f32⟩
  | 19 => ⟨S_, .f32⟩
  | 20 => ⟨S4x262144, .f32⟩
  | 21 => ⟨S4x262144, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S63, .f32⟩
  | 30 => ⟨S_, .f32⟩
  | 31 => ⟨S63, .f32⟩
  | 32 => ⟨S63, .f32⟩
  | 33 => ⟨S1, .f32⟩
  | 34 => ⟨S_, .f32⟩
  | 35 => ⟨S63, .f32⟩
  | 36 => ⟨S63, .f32⟩
  | 37 => ⟨S63, .f32⟩
  | 38 => ⟨S63, .f32⟩
  | 39 => ⟨S1, .f32⟩
  | 40 => ⟨S63, .f32⟩
  | 41 => ⟨S63, .f32⟩
  | 42 => ⟨S63, .f32⟩
  | 43 => ⟨S1, .f32⟩
  | 44 => ⟨S64, .f32⟩
  | 45 => ⟨S4x262144x1, .f32⟩
  | 46 => ⟨S1x1x64, .f32⟩
  | 47 => ⟨S4x262144x64, .f32⟩
  | 48 => ⟨S4x262144x64, .f32⟩
  | 49 => ⟨S4x262144x64, .f32⟩
  | 50 => ⟨S_, .f32⟩
  | 51 => ⟨S4x262144x64, .f32⟩
  | 52 => ⟨S4x262144x64, .f32⟩
  | 53 => ⟨S4x262144x64, .f32⟩
  | 54 => ⟨S_, .f32⟩
  | 55 => ⟨S4x262144x64, .f32⟩
  | 56 => ⟨S4x262144x64, .f32⟩
  | 57 => ⟨S4x262144x64, .f32⟩
  | 58 => ⟨S_, .f32⟩
  | 59 => ⟨S4x262144, .f32⟩
  | 60 => ⟨S4x262144x1, .f32⟩
  | 61 => ⟨S4x262144x1, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S63, .f32⟩
  | 70 => ⟨S_, .f32⟩
  | 71 => ⟨S63, .f32⟩
  | 72 => ⟨S63, .f32⟩
  | 73 => ⟨S1, .f32⟩
  | 74 => ⟨S_, .f32⟩
  | 75 => ⟨S63, .f32⟩
  | 76 => ⟨S63, .f32⟩
  | 77 => ⟨S63, .f32⟩
  | 78 => ⟨S63, .f32⟩
  | 79 => ⟨S1, .f32⟩
  | 80 => ⟨S63, .f32⟩
  | 81 => ⟨S63, .f32⟩
  | 82 => ⟨S63, .f32⟩
  | 83 => ⟨S1, .f32⟩
  | 84 => ⟨S64, .f32⟩
  | 85 => ⟨S4x262144x1, .f32⟩
  | 86 => ⟨S1x1x64, .f32⟩
  | 87 => ⟨S4x262144x64, .f32⟩
  | 88 => ⟨S4x262144x64, .f32⟩
  | 89 => ⟨S4x262144x64, .f32⟩
  | 90 => ⟨S_, .f32⟩
  | 91 => ⟨S4x262144x64, .f32⟩
  | 92 => ⟨S4x262144x64, .f32⟩
  | 93 => ⟨S4x262144x64, .f32⟩
  | 94 => ⟨S_, .f32⟩
  | 95 => ⟨S4x262144x64, .f32⟩
  | 96 => ⟨S4x262144x64, .f32⟩
  | 97 => ⟨S4x262144x64, .f32⟩
  | 98 => ⟨S_, .f32⟩
  | 99 => ⟨S4x262144, .f32⟩
  | 100 => ⟨S4x262144x1, .f32⟩
  | 101 => ⟨S4x262144x1, .f32⟩
  | 102 => ⟨S4x16x1x16384, .f32⟩
  | 103 => ⟨S4x16x1x16384, .f32⟩
  | 104 => ⟨S4x64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S63, .f32⟩
  | 113 => ⟨S_, .f32⟩
  | 114 => ⟨S63, .f32⟩
  | 115 => ⟨S63, .f32⟩
  | 116 => ⟨S1, .f32⟩
  | 117 => ⟨S_, .f32⟩
  | 118 => ⟨S63, .f32⟩
  | 119 => ⟨S63, .f32⟩
  | 120 => ⟨S63, .f32⟩
  | 121 => ⟨S63, .f32⟩
  | 122 => ⟨S1, .f32⟩
  | 123 => ⟨S63, .f32⟩
  | 124 => ⟨S63, .f32⟩
  | 125 => ⟨S63, .f32⟩
  | 126 => ⟨S1, .f32⟩
  | 127 => ⟨S64, .f32⟩
  | _ => ⟨S4x1x512x512, .f32⟩

abbrev hbmTy0_1 (i : Nat) : BufTy := match i % 128 with
  | 0 => ⟨S4x262144x1, .f32⟩
  | 1 => ⟨S1x1x64, .f32⟩
  | 2 => ⟨S4x262144x64, .f32⟩
  | 3 => ⟨S4x262144x64, .f32⟩
  | 4 => ⟨S4x262144x64, .f32⟩
  | 5 => ⟨S_, .f32⟩
  | 6 => ⟨S4x262144x64, .f32⟩
  | 7 => ⟨S4x262144x64, .f32⟩
  | 8 => ⟨S4x262144x64, .f32⟩
  | 9 => ⟨S_, .f32⟩
  | 10 => ⟨S4x262144x64, .f32⟩
  | 11 => ⟨S4x262144x64, .f32⟩
  | 12 => ⟨S4x262144x64, .f32⟩
  | 13 => ⟨S_, .f32⟩
  | 14 => ⟨S4x262144x1, .f32⟩
  | 15 => ⟨S4x262144x1, .f32⟩
  | 16 => ⟨S4x262144x64, .f32⟩
  | 17 => ⟨S4x262144x64, .f32⟩
  | 18 => ⟨S_, .f32⟩
  | 19 => ⟨S4x64, .f32⟩
  | 20 => ⟨S_, .f32⟩
  | 21 => ⟨S4, .f32⟩
  | 22 => ⟨S4x1, .f32⟩
  | 23 => ⟨S_, .f32⟩
  | 24 => ⟨S4x1, .f32⟩
  | 25 => ⟨S4x1, .f32⟩
  | 26 => ⟨S4x64, .f32⟩
  | 27 => ⟨S4x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S63, .f32⟩
  | 36 => ⟨S_, .f32⟩
  | 37 => ⟨S63, .f32⟩
  | 38 => ⟨S63, .f32⟩
  | 39 => ⟨S1, .f32⟩
  | 40 => ⟨S_, .f32⟩
  | 41 => ⟨S63, .f32⟩
  | 42 => ⟨S63, .f32⟩
  | 43 => ⟨S63, .f32⟩
  | 44 => ⟨S63, .f32⟩
  | 45 => ⟨S1, .f32⟩
  | 46 => ⟨S63, .f32⟩
  | 47 => ⟨S63, .f32⟩
  | 48 => ⟨S63, .f32⟩
  | 49 => ⟨S1, .f32⟩
  | 50 => ⟨S64, .f32⟩
  | 51 => ⟨S4x262144x1, .f32⟩
  | 52 => ⟨S1x1x64, .f32⟩
  | 53 => ⟨S4x262144x64, .f32⟩
  | 54 => ⟨S4x262144x64, .f32⟩
  | 55 => ⟨S4x262144x64, .f32⟩
  | 56 => ⟨S_, .f32⟩
  | 57 => ⟨S4x262144x64, .f32⟩
  | 58 => ⟨S4x262144x64, .f32⟩
  | 59 => ⟨S4x262144x64, .f32⟩
  | 60 => ⟨S_, .f32⟩
  | 61 => ⟨S4x262144x64, .f32⟩
  | 62 => ⟨S4x262144x64, .f32⟩
  | 63 => ⟨S4x262144x64, .f32⟩
  | 64 => ⟨S_, .f32⟩
  | 65 => ⟨S4x262144x1, .f32⟩
  | 66 => ⟨S4x262144x1, .f32⟩
  | 67 => ⟨S4x262144x64, .f32⟩
  | 68 => ⟨S4x262144x64, .f32⟩
  | 69 => ⟨S_, .f32⟩
  | 70 => ⟨S4x64, .f32⟩
  | 71 => ⟨S_, .f32⟩
  | 72 => ⟨S4, .f32⟩
  | 73 => ⟨S4x1, .f32⟩
  | 74 => ⟨S_, .f32⟩
  | 75 => ⟨S4x1, .f32⟩
  | 76 => ⟨S4x1, .f32⟩
  | 77 => ⟨S4x64, .f32⟩
  | 78 => ⟨S4x64, .f32⟩
  | 79 => ⟨S_, .f32⟩
  | 80 => ⟨S4, .f32⟩
  | 81 => ⟨S4x1x1, .f32⟩
  | 82 => ⟨S_, .f32⟩
  | 83 => ⟨S4x1x1, .f32⟩
  | 84 => ⟨S4x1x1, .f32⟩
  | 85 => ⟨S4x64x64, .f32⟩
  | 86 => ⟨S4x64x64, .f32⟩
  | 87 => ⟨S_, .f32⟩
  | 88 => ⟨S4x64, .f32⟩
  | 89 => ⟨S4x64, .f32⟩
  | 90 => ⟨S4x64, .f32⟩
  | 91 => ⟨S4x64, .f32⟩
  | 92 => ⟨S_, .f32⟩
  | 93 => ⟨S4, .f32⟩
  | 94 => ⟨S4, .f32⟩
  | 95 => ⟨S_, .f32⟩
  | 96 => ⟨S4x64, .f32⟩
  | 97 => ⟨S4x64, .f32⟩
  | 98 => ⟨S4x64, .f32⟩
  | 99 => ⟨S4x64, .f32⟩
  | 100 => ⟨S_, .f32⟩
  | 101 => ⟨S4, .f32⟩
  | 102 => ⟨S4, .f32⟩
  | 103 => ⟨S4, .f32⟩
  | 104 => ⟨S4x4096, .f32⟩
  | 105 => ⟨S_, .f32⟩
  | 106 => ⟨S4x4096, .f32⟩
  | 107 => ⟨S4x4096, .f32⟩
  | 108 => ⟨S4x4096, .f32⟩
  | 109 => ⟨S4x4096, .f32⟩
  | 110 => ⟨S_, .f32⟩
  | 111 => ⟨S4, .f32⟩
  | 112 => ⟨S4, .f32⟩
  | 113 => ⟨S4, .f32⟩
  | 114 => ⟨S_, .f32⟩
  | 115 => ⟨S_, .f32⟩
  | 116 => ⟨S_, .f32⟩
  | 117 => ⟨S_, .f32⟩
  | 118 => ⟨S_, .f32⟩
  | _ => ⟨S4x1x512x512, .f32⟩

abbrev hbmTy (i : Nat) : BufTy := match i / 128 with
  | 0 => hbmTy0_0 i
  | 1 => hbmTy0_1 i
  | _ => ⟨S4x1x512x512, .f32⟩

abbrev bufTy : (tb : Table) → Fin (tcTables nBuf tb) → BufTy
  | .hbm, ⟨i, _⟩ => hbmTy i
  | .local _ .vmem, ⟨0, _⟩ => ⟨S1x1x1x16384, .f32⟩
  | .local _ .vmem, ⟨1, _⟩ => ⟨S1x1x1x16384, .f32⟩
  | .local _ .vmem, ⟨2, _⟩ => ⟨S1x1x1x16384, .f32⟩
  | .local _ .vmem, ⟨3, _⟩ => ⟨S1x1x1x16384, .f32⟩
  | .local _ .vmem, ⟨4, _⟩ => ⟨S1x1x1x16384, .f32⟩
  | .local _ .vmem, ⟨5, _⟩ => ⟨S1x1x1x16384, .f32⟩
  | .local _ .vmem, ⟨6, _⟩ => ⟨S1x1x1x16384, .f32⟩
  | .local _ .vmem, ⟨7, _⟩ => ⟨S1x1x1x16384, .f32⟩
  | .local _ .vmem, ⟨8, _⟩ => ⟨S1x64x64, .f32⟩
  | .local _ .vmem, ⟨9, _⟩ => ⟨S1x64x64, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_cst : Ref sig .tc := ⟨.hbm, 27, rfl⟩
abbrev main_call2_v3 : Ref sig .tc := ⟨.hbm, 28, rfl⟩
abbrev main_call2_v4 : Ref sig .tc := ⟨.hbm, 29, rfl⟩
abbrev main_call2_cst_0 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_cst_1 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_v15 : Ref sig .tc := ⟨.hbm, 42, rfl⟩
abbrev main_call2_v16 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_5 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_6 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_7 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_8 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_cst : Ref sig .tc := ⟨.hbm, 67, rfl⟩
abbrev main_call3_v3 : Ref sig .tc := ⟨.hbm, 68, rfl⟩
abbrev main_call3_v4 : Ref sig .tc := ⟨.hbm, 69, rfl⟩
abbrev main_call3_cst_0 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_cst_1 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_v15 : Ref sig .tc := ⟨.hbm, 82, rfl⟩
abbrev main_call3_v16 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_10 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_11 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_cst_12 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_13 : Ref sig .tc := ⟨.hbm, 105, rfl⟩
abbrev main_cst_14 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_cst : Ref sig .tc := ⟨.hbm, 110, rfl⟩
abbrev main_call4_v3 : Ref sig .tc := ⟨.hbm, 111, rfl⟩
abbrev main_call4_v4 : Ref sig .tc := ⟨.hbm, 112, rfl⟩
abbrev main_call4_cst_0 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_cst_1 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_v15 : Ref sig .tc := ⟨.hbm, 125, rfl⟩
abbrev main_call4_v16 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_cst_15 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_cst_16 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_cst_17 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_cst_18 : Ref sig .tc := ⟨.hbm, 146, rfl⟩
abbrev main_v55 : Ref sig .tc := ⟨.hbm, 147, rfl⟩
abbrev main_cst_19 : Ref sig .tc := ⟨.hbm, 148, rfl⟩
abbrev main_v56 : Ref sig .tc := ⟨.hbm, 149, rfl⟩
abbrev main_v57 : Ref sig .tc := ⟨.hbm, 150, rfl⟩
abbrev main_cst_20 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_cst_21 : Ref sig .tc := ⟨.hbm, 156, rfl⟩
abbrev main_cst_22 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_cst : Ref sig .tc := ⟨.hbm, 161, rfl⟩
abbrev main_call5_v3 : Ref sig .tc := ⟨.hbm, 162, rfl⟩
abbrev main_call5_v4 : Ref sig .tc := ⟨.hbm, 163, rfl⟩
abbrev main_call5_cst_0 : Ref sig .tc := ⟨.hbm, 164, rfl⟩
abbrev main_call5_v5 : Ref sig .tc := ⟨.hbm, 165, rfl⟩
abbrev main_call5_v6 : Ref sig .tc := ⟨.hbm, 166, rfl⟩
abbrev main_call5_v7 : Ref sig .tc := ⟨.hbm, 167, rfl⟩
abbrev main_call5_cst_1 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_v15 : Ref sig .tc := ⟨.hbm, 176, rfl⟩
abbrev main_call5_v16 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_cst_23 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_cst_24 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_cst_25 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_cst_26 : Ref sig .tc := ⟨.hbm, 197, rfl⟩
abbrev main_v78 : Ref sig .tc := ⟨.hbm, 198, rfl⟩
abbrev main_cst_27 : Ref sig .tc := ⟨.hbm, 199, rfl⟩
abbrev main_v79 : Ref sig .tc := ⟨.hbm, 200, rfl⟩
abbrev main_v80 : Ref sig .tc := ⟨.hbm, 201, rfl⟩
abbrev main_cst_28 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_cst_29 : Ref sig .tc := ⟨.hbm, 207, rfl⟩
abbrev main_v85 : Ref sig .tc := ⟨.hbm, 208, rfl⟩
abbrev main_v86 : Ref sig .tc := ⟨.hbm, 209, rfl⟩
abbrev main_cst_30 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_cst_31 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_cst_32 : Ref sig .tc := ⟨.hbm, 220, rfl⟩
abbrev main_v95 : Ref sig .tc := ⟨.hbm, 221, rfl⟩
abbrev main_v96 : Ref sig .tc := ⟨.hbm, 222, rfl⟩
abbrev main_cst_33 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_cst_34 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩
abbrev main_cst_35 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_cst_36 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_cst_37 : Ref sig .tc := ⟨.hbm, 242, rfl⟩
abbrev main_v112 : Ref sig .tc := ⟨.hbm, 243, rfl⟩
abbrev main_cst_38 : Ref sig .tc := ⟨.hbm, 244, rfl⟩
abbrev main_v113 : Ref sig .tc := ⟨.hbm, 245, rfl⟩
abbrev main_v114 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "r63" => some ((63⁻¹ : ℝ) : EReal)
  | _ => none
-- ==== ReferenceIdeal.lean ====
abbrev S4x1x512x512 : Shape := ⟨4, ![4, 1, 512, 512]⟩
abbrev S4x262144 : Shape := ⟨2, ![4, 262144]⟩
abbrev S_ : Shape := ⟨0, ![]⟩
abbrev S63 : Shape := ⟨1, ![63]⟩
abbrev S1 : Shape := ⟨1, ![1]⟩
abbrev S64 : Shape := ⟨1, ![64]⟩
abbrev S4x262144x1 : Shape := ⟨3, ![4, 262144, 1]⟩
abbrev S1x1x64 : Shape := ⟨3, ![1, 1, 64]⟩
abbrev S4x262144x64 : Shape := ⟨3, ![4, 262144, 64]⟩
abbrev S4x64 : Shape := ⟨2, ![4, 64]⟩
abbrev S4 : Shape := ⟨1, ![4]⟩
abbrev S4x1 : Shape := ⟨2, ![4, 1]⟩
abbrev S4x64x64 : Shape := ⟨3, ![4, 64, 64]⟩
abbrev S4x1x1 : Shape := ⟨3, ![4, 1, 1]⟩
abbrev S4x4096 : Shape := ⟨2, ![4, 4096]⟩

abbrev nBuf : Space → Nat
  | .hbm => 169
  | .vmem => 0
  | .smem => 0
  | _ => 0

abbrev hbmTy0_0 (i : Nat) : BufTy := match i % 128 with
  | 0 => ⟨S4x1x512x512, .f32⟩
  | 1 => ⟨S4x1x512x512, .f32⟩
  | 2 => ⟨S4x262144, .f32⟩
  | 3 => ⟨S_, .f32⟩
  | 4 => ⟨S_, .f32⟩
  | 5 => ⟨S_, .f32⟩
  | 6 => ⟨S4x262144, .f32⟩
  | 7 => ⟨S4x262144, .f32⟩
  | 8 => ⟨S_, .f32⟩
  | 9 => ⟨S4x262144, .f32⟩
  | 10 => ⟨S4x262144, .f32⟩
  | 11 => ⟨S4x262144, .f32⟩
  | 12 => ⟨S_, .f32⟩
  | 13 => ⟨S_, .f32⟩
  | 14 => ⟨S_, .f32⟩
  | 15 => ⟨S4x262144, .f32⟩
  | 16 => ⟨S4x262144, .f32⟩
  | 17 => ⟨S_, .f32⟩
  | 18 => ⟨S4x262144, .f32⟩
  | 19 => ⟨S4x262144, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S63, .f32⟩
  | 28 => ⟨S_, .f32⟩
  | 29 => ⟨S63, .f32⟩
  | 30 => ⟨S63, .f32⟩
  | 31 => ⟨S1, .f32⟩
  | 32 => ⟨S_, .f32⟩
  | 33 => ⟨S63, .f32⟩
  | 34 => ⟨S63, .f32⟩
  | 35 => ⟨S63, .f32⟩
  | 36 => ⟨S63, .f32⟩
  | 37 => ⟨S1, .f32⟩
  | 38 => ⟨S63, .f32⟩
  | 39 => ⟨S63, .f32⟩
  | 40 => ⟨S63, .f32⟩
  | 41 => ⟨S1, .f32⟩
  | 42 => ⟨S64, .f32⟩
  | 43 => ⟨S4x262144x1, .f32⟩
  | 44 => ⟨S1x1x64, .f32⟩
  | 45 => ⟨S4x262144x64, .f32⟩
  | 46 => ⟨S4x262144x64, .f32⟩
  | 47 => ⟨S4x262144x64, .f32⟩
  | 48 => ⟨S_, .f32⟩
  | 49 => ⟨S4x262144x64, .f32⟩
  | 50 => ⟨S4x262144x64, .f32⟩
  | 51 => ⟨S4x262144x64, .f32⟩
  | 52 => ⟨S_, .f32⟩
  | 53 => ⟨S4x262144x64, .f32⟩
  | 54 => ⟨S4x262144x64, .f32⟩
  | 55 => ⟨S4x262144x64, .f32⟩
  | 56 => ⟨S_, .f32⟩
  | 57 => ⟨S4x262144, .f32⟩
  | 58 => ⟨S4x262144x1, .f32⟩
  | 59 => ⟨S_, .f32⟩
  | 60 => ⟨S4x262144x1, .f32⟩
  | 61 => ⟨S4x262144x1, .f32⟩
  | 62 => ⟨S4x262144x64, .f32⟩
  | 63 => ⟨S4x262144x64, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S63, .f32⟩
  | 72 => ⟨S_, .f32⟩
  | 73 => ⟨S63, .f32⟩
  | 74 => ⟨S63, .f32⟩
  | 75 => ⟨S1, .f32⟩
  | 76 => ⟨S_, .f32⟩
  | 77 => ⟨S63, .f32⟩
  | 78 => ⟨S63, .f32⟩
  | 79 => ⟨S63, .f32⟩
  | 80 => ⟨S63, .f32⟩
  | 81 => ⟨S1, .f32⟩
  | 82 => ⟨S63, .f32⟩
  | 83 => ⟨S63, .f32⟩
  | 84 => ⟨S63, .f32⟩
  | 85 => ⟨S1, .f32⟩
  | 86 => ⟨S64, .f32⟩
  | 87 => ⟨S4x262144x1, .f32⟩
  | 88 => ⟨S1x1x64, .f32⟩
  | 89 => ⟨S4x262144x64, .f32⟩
  | 90 => ⟨S4x262144x64, .f32⟩
  | 91 => ⟨S4x262144x64, .f32⟩
  | 92 => ⟨S_, .f32⟩
  | 93 => ⟨S4x262144x64, .f32⟩
  | 94 => ⟨S4x262144x64, .f32⟩
  | 95 => ⟨S4x262144x64, .f32⟩
  | 96 => ⟨S_, .f32⟩
  | 97 => ⟨S4x262144x64, .f32⟩
  | 98 => ⟨S4x262144x64, .f32⟩
  | 99 => ⟨S4x262144x64, .f32⟩
  | 100 => ⟨S_, .f32⟩
  | 101 => ⟨S4x262144, .f32⟩
  | 102 => ⟨S4x262144x1, .f32⟩
  | 103 => ⟨S_, .f32⟩
  | 104 => ⟨S4x262144x1, .f32⟩
  | 105 => ⟨S4x262144x1, .f32⟩
  | 106 => ⟨S4x262144x64, .f32⟩
  | 107 => ⟨S4x262144x64, .f32⟩
  | 108 => ⟨S_, .f32⟩
  | 109 => ⟨S4x64, .f32⟩
  | 110 => ⟨S_, .f32⟩
  | 111 => ⟨S4, .f32⟩
  | 112 => ⟨S4x1, .f32⟩
  | 113 => ⟨S_, .f32⟩
  | 114 => ⟨S4x1, .f32⟩
  | 115 => ⟨S4x1, .f32⟩
  | 116 => ⟨S4x64, .f32⟩
  | 117 => ⟨S4x64, .f32⟩
  | 118 => ⟨S_, .f32⟩
  | 119 => ⟨S4x64, .f32⟩
  | 120 => ⟨S_, .f32⟩
  | 121 => ⟨S4, .f32⟩
  | 122 => ⟨S4x1, .f32⟩
  | 123 => ⟨S_, .f32⟩
  | 124 => ⟨S4x1, .f32⟩
  | 125 => ⟨S4x1, .f32⟩
  | 126 => ⟨S4x64, .f32⟩
  | 127 => ⟨S4x64, .f32⟩
  | _ => ⟨S4x1x512x512, .f32⟩

abbrev hbmTy0_1 (i : Nat) : BufTy := match i % 128 with
  | 0 => ⟨S4x64x64, .f32⟩
  | 1 => ⟨S_, .f32⟩
  | 2 => ⟨S4, .f32⟩
  | 3 => ⟨S4x1x1, .f32⟩
  | 4 => ⟨S_, .f32⟩
  | 5 => ⟨S4x1x1, .f32⟩
  | 6 => ⟨S4x1x1, .f32⟩
  | 7 => ⟨S4x64x64, .f32⟩
  | 8 => ⟨S4x64x64, .f32⟩
  | 9 => ⟨S_, .f32⟩
  | 10 => ⟨S4x64, .f32⟩
  | 11 => ⟨S4x64, .f32⟩
  | 12 => ⟨S4x64, .f32⟩
  | 13 => ⟨S4x64, .f32⟩
  | 14 => ⟨S_, .f32⟩
  | 15 => ⟨S4, .f32⟩
  | 16 => ⟨S4, .f32⟩
  | 17 => ⟨S_, .f32⟩
  | 18 => ⟨S4x64, .f32⟩
  | 19 => ⟨S4x64, .f32⟩
  | 20 => ⟨S4x64, .f32⟩
  | 21 => ⟨S4x64, .f32⟩
  | 22 => ⟨S_, .f32⟩
  | 23 => ⟨S4, .f32⟩
  | 24 => ⟨S4, .f32⟩
  | 25 => ⟨S4x4096, .f32⟩
  | 26 => ⟨S_, .f32⟩
  | 27 => ⟨S4x4096, .f32⟩
  | 28 => ⟨S4x4096, .f32⟩
  | 29 => ⟨S4x4096, .f32⟩
  | 30 => ⟨S4x4096, .f32⟩
  | 31 => ⟨S_, .f32⟩
  | 32 => ⟨S4, .f32⟩
  | 33 => ⟨S4, .f32⟩
  | 34 => ⟨S4, .f32⟩
  | 35 => ⟨S4, .f32⟩
  | 36 => ⟨S_, .f32⟩
  | 37 => ⟨S_, .f32⟩
  | 38 => ⟨S_, .f32⟩
  | 39 => ⟨S_, .f32⟩
  | 40 => ⟨S_, .f32⟩
  | _ => ⟨S4x1x512x512, .f32⟩

abbrev hbmTy (i : Nat) : BufTy := match i / 128 with
  | 0 => hbmTy0_0 i
  | 1 => hbmTy0_1 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_cst : Ref sig .tc := ⟨.hbm, 25, rfl⟩
abbrev main_call2_v3 : Ref sig .tc := ⟨.hbm, 26, rfl⟩
abbrev main_call2_v4 : Ref sig .tc := ⟨.hbm, 27, rfl⟩
abbrev main_call2_cst_0 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_cst_1 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_v12 : Ref sig .tc := ⟨.hbm, 37, rfl⟩
abbrev main_call2_v13 : Ref sig .tc := ⟨.hbm, 38, rfl⟩
abbrev main_call2_v14 : Ref sig .tc := ⟨.hbm, 39, rfl⟩
abbrev main_call2_v15 : Ref sig .tc := ⟨.hbm, 40, rfl⟩
abbrev main_call2_v16 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst_5 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_6 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_7 : Ref sig .tc := ⟨.hbm, 56, rfl⟩
abbrev main_v16 : Ref sig .tc := ⟨.hbm, 57, rfl⟩
abbrev main_v17 : Ref sig .tc := ⟨.hbm, 58, rfl⟩
abbrev main_cst_8 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_9 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_cst : Ref sig .tc := ⟨.hbm, 69, rfl⟩
abbrev main_call3_v3 : Ref sig .tc := ⟨.hbm, 70, rfl⟩
abbrev main_call3_v4 : Ref sig .tc := ⟨.hbm, 71, rfl⟩
abbrev main_call3_cst_0 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_cst_1 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_v15 : Ref sig .tc := ⟨.hbm, 84, rfl⟩
abbrev main_call3_v16 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_cst_11 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_12 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_13 : Ref sig .tc := ⟨.hbm, 100, rfl⟩
abbrev main_v34 : Ref sig .tc := ⟨.hbm, 101, rfl⟩
abbrev main_v35 : Ref sig .tc := ⟨.hbm, 102, rfl⟩
abbrev main_cst_14 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_cst_15 : Ref sig .tc := ⟨.hbm, 108, rfl⟩
abbrev main_v40 : Ref sig .tc := ⟨.hbm, 109, rfl⟩
abbrev main_cst_16 : Ref sig .tc := ⟨.hbm, 110, rfl⟩
abbrev main_v41 : Ref sig .tc := ⟨.hbm, 111, rfl⟩
abbrev main_v42 : Ref sig .tc := ⟨.hbm, 112, rfl⟩
abbrev main_cst_17 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst_18 : Ref sig .tc := ⟨.hbm, 118, rfl⟩
abbrev main_v47 : Ref sig .tc := ⟨.hbm, 119, rfl⟩
abbrev main_cst_19 : Ref sig .tc := ⟨.hbm, 120, rfl⟩
abbrev main_v48 : Ref sig .tc := ⟨.hbm, 121, rfl⟩
abbrev main_v49 : Ref sig .tc := ⟨.hbm, 122, rfl⟩
abbrev main_cst_20 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_cst_21 : Ref sig .tc := ⟨.hbm, 129, rfl⟩
abbrev main_v55 : Ref sig .tc := ⟨.hbm, 130, rfl⟩
abbrev main_v56 : Ref sig .tc := ⟨.hbm, 131, rfl⟩
abbrev main_cst_22 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_cst_23 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_24 : Ref sig .tc := ⟨.hbm, 142, rfl⟩
abbrev main_v65 : Ref sig .tc := ⟨.hbm, 143, rfl⟩
abbrev main_v66 : Ref sig .tc := ⟨.hbm, 144, rfl⟩
abbrev main_cst_25 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_26 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_cst_28 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_cst_29 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩

abbrev nD : Nat := 1
abbrev τ : Topo := Topo.v7x

variable {F : FTy → Type} [FloatOps F]
-- ==== Proof.Weight.lean ====
/- One pixel's soft weight for one bin, over the extended reals: the form the kernel computes and the form the
   reference computes, and their equality. -/
module

public import Idealize.ShloMosaic.PureOps.Ideal.Laws

@[expose] public section

noncomputable section

namespace Cert.Weight

open Idealize.ShloMosaic

/-- The constant 1. -/
theorem lit_one : Ideal.ofBits .f32 0x3F800000#32 = ((1 : ℝ) : EReal) := by
  simp [Ideal.ofBits, Ideal.ieee, -EReal.coe_mul]; norm_num
/-- The constant −2. -/
theorem lit_neg_two : Ideal.ofBits .f32 0xC0000000#32 = ((-2 : ℝ) : EReal) := by
  simp [Ideal.ofBits, Ideal.ieee, -EReal.coe_mul]; norm_num
/-- The constant 1/2. -/
theorem lit_half : Ideal.ofBits .f32 0x3F000000#32 = ((1 / 2 : ℝ) : EReal) := by
  simp [Ideal.ofBits, Ideal.ieee, -EReal.coe_mul]; norm_num
/-- The constant −1/2. -/
theorem lit_neg_half : Ideal.ofBits .f32 0xBF000000#32 = ((-(1 / 2) : ℝ) : EReal) := by
  simp [Ideal.ofBits, Ideal.ieee, -EReal.coe_mul]; norm_num
/-- The constant 63. -/
theorem lit_63 : Ideal.ofBits .f32 0x427C0000#32 = ((63 : ℝ) : EReal) := by
  simp [Ideal.ofBits, Ideal.ieee, -EReal.coe_mul]; norm_num
/-- The small constant both programs add before dividing is positive. -/
theorem lit_eps_pos : 0 < Ideal.ofBits .f32 0x2EDBE6FF#32 := by
  have h : Ideal.ofBits .f32 0x2EDBE6FF#32 = ((14411519 * 2 ^ (-57 : ℤ) : ℝ) : EReal) := by
    simp [Ideal.ofBits, Ideal.ieee, -EReal.coe_mul]
  rw [h]; exact_mod_cast (by positivity : (0 : ℝ) < 14411519 * 2 ^ (-57 : ℤ))

/-- A pixel clipped to [0, 1]. -/
def clip (x : EReal) : EReal := min ((1 : ℝ) : EReal) (max 0 x)

/-- A clipped pixel is a real number, whatever the pixel. -/
theorem clip_real (x : EReal) : ∃ r : ℝ, clip x = (r : EReal) := by
  have h1 : clip x ≤ ((1 : ℝ) : EReal) := min_le_left _ _
  have h0 : (0 : EReal) ≤ clip x := le_min (by exact_mod_cast zero_le_one) (le_max_left _ _)
  refine ⟨(clip x).toReal, (EReal.coe_toReal (fun h => ?_) (fun h => ?_)).symm⟩
  · rw [h] at h1; exact absurd h1 (not_le.mpr (EReal.coe_lt_top 1))
  · rw [h] at h0; exact absurd h0 (not_le.mpr EReal.bot_lt_zero)

/-- The centre of bin `k`. -/
def centre (k : ℕ) : EReal := (((k : ℝ) * (63 : ℝ)⁻¹ : ℝ) : EReal)

/-- The unnormalised weight as the kernel computes it: `exp((-2·d)·d)` of the distance `d` to the centre. -/
def expK (x : EReal) (k : ℕ) : EReal :=
  Ideal.exp (((-2 : ℝ) : EReal) * (clip x - centre k) * (clip x - centre k))

/-- The unnormalised weight as the reference computes it: `exp(-1/2 · (d / (1/2))²)`. -/
def expR (x : EReal) (k : ℕ) : EReal :=
  Ideal.exp (((-(1 / 2) : ℝ) : EReal) *
    (Ideal.div (clip x - centre k) ((1 / 2 : ℝ) : EReal) * Ideal.div (clip x - centre k) ((1 / 2 : ℝ) : EReal)))

/-- The two unnormalised weights are equal: both exponents are `-2·d²`. -/
theorem expK_eq (x : EReal) (k : ℕ) : expK x k = expR x k := by
  obtain ⟨r, hr⟩ := clip_real x
  unfold expK expR centre
  rw [hr, ← EReal.coe_sub, Ideal.div_coe (by norm_num)]
  simp only [← EReal.coe_mul]
  congr 2
  ring

/-- An exponential is not negative. -/
theorem exp_nonneg (x : EReal) : 0 ≤ Ideal.exp x := by
  induction x with
  | bot => exact le_of_eq rfl
  | top => exact le_top
  | coe r => rw [Ideal.exp_coe]; exact_mod_cast (Real.exp_pos r).le

/-- Multiplying by a reciprocal is dividing, away from zero. -/
theorem mul_recip (e : EReal) {s : EReal} (hs : s ≠ 0) : e * Ideal.div ((1 : ℝ) : EReal) s = Ideal.div e s := by
  unfold Ideal.div
  rw [if_neg hs, if_neg hs, EReal.coe_one, one_mul]

/-- The normalised weight as the kernel computes it, `z` the pixel's sum of unnormalised weights. -/
def weightK (x z : EReal) (k : ℕ) : EReal :=
  expK x k * Ideal.div ((1 : ℝ) : EReal) (z + Ideal.ofBits .f32 0x2EDBE6FF#32)

/-- The normalised weight as the reference computes it. -/
def weightR (x z : EReal) (k : ℕ) : EReal := Ideal.div (expR x k) (z + Ideal.ofBits .f32 0x2EDBE6FF#32)

/-- The two normalised weights are equal, the pixel's sum not being negative. -/
theorem weightK_eq (x : EReal) {z : EReal} (hz : 0 ≤ z) (k : ℕ) : weightK x z k = weightR x z k := by
  unfold weightK weightR
  rw [expK_eq, mul_recip _ (ne_of_gt (lt_of_lt_of_le lit_eps_pos (le_add_of_nonneg_left hz)))]

end Cert.Weight

end
-- ==== Proof.Block.lean ====
/- What one block of the region computes: it adds to the accumulator, for each pair of bins, the sum over the block's
   16384 pixels of the products of the two images' weights; the first block of a batch element starts from zero. -/
module

public import proofs.«01_k».proof.Proof.Weight
public import proofs.«01_k».proof.Proof.Gen.KernelIdeal.Frame
public import Idealize.ShloMosaic.Lib.MatmulPlain
public import Idealize.ShloMosaic.Lib.Pipeline.Value
public import Idealize.ShloMosaic.Lib.Tactic

@[expose] public section

noncomputable section

namespace Cert.KernelIdeal.Block

open Idealize.ShloMosaic Idealize.ShloMosaic.TcCoe Idealize.SL.Sem Idealize.ShloMosaic.ValueIdx
open Cert.KernelIdeal Cert.KernelIdeal.Gen Cert.Weight

/-- The printed constant `r63` is 1/63. -/
theorem r63 : Named.named (F := Ideal) κ "r63" (φ := .f32) 0x3C820821#32 = ((63⁻¹ : ℝ) : EReal) :=
  IdealRules.named_const.ideal_named_scalar _ _ _ _ rfl

/-- A block's row, one of its 16384 pixels. -/
abbrev at0 (p : Fin 16384) : S1x1x1x16384.Idx := ix4 0 0 0 p

/-- A block without its unit axes, read at a pixel. -/
theorem row_apply (v : Vec Ideal S1x1x1x16384 .f32) (j : S1x16384.Idx) :
    shapeCast S1x16384 v shapeCasts_S1x1x1x16384_S1x16384 j = v (at0 (j 1)) := by
  refine shapeCast_apply v _ j (at0 (j 1)) ?_
  have h0 : (j 0).val < 1 := (j 0).isLt
  rw [Shape.rowMajor_val_four, Shape.rowMajor_val_two]
  show ((0 * 1 + 0) * 1 + 0) * 16384 + (j 1).val = (j 0).val * 16384 + (j 1).val
  omega

/-- A row spread over the 64 bins, read at a bin and a pixel. -/
theorem spread_apply (x : FVec Ideal S1x16384 .f32) (j : S64x16384.Idx) :
    broadcastTo S64x16384 x broadcasts_S1x16384_S64x16384 j = x (ix2 0 (j 1)) := by
  refine broadcastTo_apply x _ j (ix2 0 (j 1)) fun a => ?_
  match a with
  | ⟨0, _⟩ => show 0 = if (1 : Nat) = 1 then 0 else _; rw [if_pos rfl]
  | ⟨1, _⟩ => show (j 1).val = if (16384 : Nat) = 1 then 0 else (j 1).val; rw [if_neg (by decide)]

/-- A bin's number, as the kernel counts it. -/
theorem bin_apply (j : S64x16384.Idx) :
    (sitofp .f32 (iota .tc S64x16384 32 [0] iota_S64x16384_d0_w32) : FVec Ideal S64x16384 .f32) j = (((j 0).val : ℝ) : EReal) := by
  have hj : (j 0).val < 64 := (j 0).isLt
  have e : (BitVec.ofNat 32 (j 0).val).toInt = ((j 0).val : ℤ) := by
    rw [BitVec.toInt_eq_toNat_cond, BitVec.toNat_ofNat, Nat.mod_eq_of_lt (by omega), if_pos (by omega)]
  rw [sitofp_apply, iota_single_apply]
  show (((BitVec.ofNat 32 (j 0).val).toInt : ℝ) : EReal) = _
  rw [e]; norm_cast

/-- The first image's unnormalised weights over a block. -/
theorem exp_first (v : Vec Ideal S1x1x1x16384 .f32) (j : S64x16384.Idx) :
    k0_pay3 (F := Ideal) v j = expK (v (at0 (j 1))) (j 0).val := by
  show Ideal.exp (Ideal.ofBits .f32 0xC0000000#32 *
      (broadcastTo S64x16384 (minimumf (broadcast S1x16384 (Scalar.ofBits (F := Ideal) .f32 0x3F800000#32))
          (maximumf (broadcast S1x16384 (Scalar.ofBits (F := Ideal) .f32 0x00000000#32))
            (shapeCast S1x16384 v shapeCasts_S1x1x1x16384_S1x16384))) broadcasts_S1x16384_S64x16384 j
        - (sitofp .f32 (iota .tc S64x16384 32 [0] iota_S64x16384_d0_w32) : FVec Ideal S64x16384 .f32) j
          * Named.named (F := Ideal) κ "r63" (φ := .f32) 0x3C820821#32) *
      (broadcastTo S64x16384 (minimumf (broadcast S1x16384 (Scalar.ofBits (F := Ideal) .f32 0x3F800000#32))
          (maximumf (broadcast S1x16384 (Scalar.ofBits (F := Ideal) .f32 0x00000000#32))
            (shapeCast S1x16384 v shapeCasts_S1x1x1x16384_S1x16384))) broadcasts_S1x16384_S64x16384 j
        - (sitofp .f32 (iota .tc S64x16384 32 [0] iota_S64x16384_d0_w32) : FVec Ideal S64x16384 .f32) j
          * Named.named (F := Ideal) κ "r63" (φ := .f32) 0x3C820821#32)) = _
  rw [spread_apply, bin_apply, r63, lit_neg_two, ← EReal.coe_mul]
  show Ideal.exp (_ * (min (Ideal.ofBits .f32 0x3F800000#32) (max (Ideal.ofBits .f32 0x00000000#32)
      (shapeCast S1x16384 v shapeCasts_S1x1x1x16384_S1x16384 (ix2 0 (j 1)))) - _) *
    (min (Ideal.ofBits .f32 0x3F800000#32) (max (Ideal.ofBits .f32 0x00000000#32)
      (shapeCast S1x16384 v shapeCasts_S1x1x1x16384_S1x16384 (ix2 0 (j 1)))) - _)) = _
  rw [row_apply, lit_one, Ideal.ofBits_zero_f32]
  rfl

/-- The second image's unnormalised weights over a block: computed as the first's. -/
theorem exp_second (v : Vec Ideal S1x1x1x16384 .f32) : k0_pay4 (F := Ideal) v = k0_pay3 (F := Ideal) v := rfl

/-- The factor that normalises a pixel's weights, over a block of per-pixel sums. -/
theorem recip_apply (z : Vec Ideal S1x1x1x16384 .f32) (j : S64x16384.Idx) :
    broadcastTo S64x16384 (divf (broadcast S1x16384 (Scalar.ofBits (F := Ideal) .f32 0x3F800000#32))
        (addf (shapeCast S1x16384 z shapeCasts_S1x1x1x16384_S1x16384)
          (broadcast S1x16384 (Scalar.ofBits (F := Ideal) .f32 0x2EDBE6FF#32)))) broadcasts_S1x16384_S64x16384 j
      = Ideal.div ((1 : ℝ) : EReal) (z (at0 (j 1)) + Ideal.ofBits .f32 0x2EDBE6FF#32) := by
  rw [spread_apply]
  show Ideal.div (Ideal.ofBits .f32 0x3F800000#32)
    (shapeCast S1x16384 z shapeCasts_S1x1x1x16384_S1x16384 (ix2 0 (j 1)) + Ideal.ofBits .f32 0x2EDBE6FF#32) = _
  rw [row_apply, lit_one]

/-- The products of the two images' weights at two bins, summed over a block's pixels. -/
def part (x y zx zy : Vec Ideal S1x1x1x16384 .f32) (k l : ℕ) : EReal :=
  ∑ p : Fin 16384, weightK (x (at0 p)) (zx (at0 p)) k * weightK (y (at0 p)) (zy (at0 p)) l

/-- A block's product of weights, read at two bins: the sum over its pixels. -/
theorem product_apply (a b : FVec Ideal S64x16384 .f32) (k l : Fin 64) :
    matmul (F := Ideal) dot_S64x16384_S64x16384_S64x64_1_1_0_0_n_n none a b (constant S64x64 .f32 0x00000000#32) (ix2 k l)
      = ∑ p : Fin 16384, a (ix2 k p) * b (ix2 l p) := by
  refine (Ideal.matmul_transposedRhs_apply (M := 64) (K := 16384) (N := 64) none a b (constant S64x64 .f32 0x00000000#32) k l).trans ?_
  show Ideal.ofBits .f32 0x00000000#32 + _ = _
  rw [Ideal.ofBits_zero_f32, zero_add]

/-- The accumulator without its unit axis, read at two bins. -/
theorem acc_apply (acc : Vec Ideal S1x64x64 .f32) (k l : Fin 64) :
    shapeCast S64x64 acc shapeCasts_S1x64x64_S64x64 (ix2 k l) = acc (ix3 0 k l) := by
  refine shapeCast_apply acc _ (ix2 k l) (ix3 0 k l) ?_
  rw [Shape.rowMajor_val_three, Shape.rowMajor_val_two]
  show (0 * 64 + k.val) * 64 + l.val = k.val * 64 + l.val
  omega

/-- A block's index is its two bins. -/
theorem idx_eq (i : S1x64x64.Idx) : i = ix3 0 (i 1) (i 2) := by
  have h0 : (i 0).val < 1 := (i 0).isLt
  funext a; apply Fin.ext
  match a with
  | ⟨0, _⟩ => show (i 0).val = 0; omega
  | ⟨1, _⟩ => rfl
  | ⟨2, _⟩ => rfl

/-- What a block stores: the accumulator plus the block's sum of products. -/
theorem store_apply (x y zx zy : Vec Ideal S1x1x1x16384 .f32) (acc : Vec Ideal S1x64x64 .f32) (i : S1x64x64.Idx) :
    k0_pay1 (F := Ideal) (k0_pay3 x) (k0_pay4 y) zx zy acc i = acc i + part x y zx zy (i 1).val (i 2).val := by
  obtain ⟨k, l, rfl⟩ : ∃ k l : Fin 64, i = ix3 0 k l := ⟨_, _, idx_eq i⟩
  unfold k0_pay1
  dsimp only
  refine (shapeCast_apply _ shapeCasts_S64x64_S1x64x64 (ix3 0 k l) (ix2 k l) ?_).trans ?_
  · rw [Shape.rowMajor_val_three, Shape.rowMajor_val_two]
    show k.val * 64 + l.val = (0 * 64 + k.val) * 64 + l.val
    omega
  refine congrArg₂ (· + ·) (acc_apply acc k l) ((product_apply _ _ k l).trans (Finset.sum_congr rfl fun p _ => ?_))
  refine congrArg₂ (· * ·) (congrArg₂ (· * ·) (exp_first x _) (recip_apply zx _)) (congrArg₂ (· * ·) (exp_first y _) (recip_apply zy _))

/-- The accumulator's start: zero everywhere. -/
theorem zero_apply (i : S1x64x64.Idx) : k0_pay2 (F := Ideal) i = 0 := Ideal.ofBits_zero_f32

end Cert.KernelIdeal.Block

end
-- ==== Proof.Host.lean ====
/- What the kernel program's host operations compute, before and after its region, in the terms of the
   reference's own stages. Before: the clipped images, the per-pixel normalising sums and the region's four
   input arrays. After: the whole loss, once the region's array is the reference's joint histogram. -/
module

public import proofs.«01_k».proof.Proof.Gen.KernelIdeal.Frame
public import proofs.«01_k».proof.Proof.Gen.ReferenceIdeal.Read
public import Idealize.ShloMosaic.Lib.StableHlo.RunRead

@[expose] public section

noncomputable section

namespace Cert.KernelIdeal.Host

open Idealize.ShloMosaic Idealize.ShloMosaic.TcCoe Idealize.SL.Sem Idealize.ShloMosaic.StableHlo
open Cert.KernelIdeal Cert.KernelIdeal.Gen Cert.ReferenceIdeal.Read

variable {F : FTy → Type} [FloatOps F] [Named F]

/-- The host operations before the region, in order. -/
abbrev before : List (HloOp τ sig (Elt F)) :=
  List.flatten [hostOps0, hostOps0_1, hostOps0_2, hostOps0_3, hostOps0_4, hostOps0_5, hostOps0_6, hostOps0_7, hostOps0_8]

/-- The host operations after the region, in order. -/
abbrev behind : List (HloOp τ sig (Elt F)) :=
  List.flatten [hostOps1, hostOps1_1, hostOps1_2, hostOps1_3, hostOps1_4]

variable (U : Valuation τ sig (Elt F))

set_option maxHeartbeats 4000000 in
/-- The first image clipped to [0, 1] and flattened: the reference's. -/
theorem before_v3 : after before U (Proc.devRef .tc main_v3) = val_main_v1 (F := F) (U (Proc.devRef .tc main_arg0)) := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- The second image clipped to [0, 1] and flattened: the reference's. -/
theorem before_v5 : after before U (Proc.devRef .tc main_v5) = val_main_v3 (F := F) (U (Proc.devRef .tc main_arg1)) := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- Each pixel's sum of unnormalised weights, first image: the reference's. -/
theorem before_v20 : after before U (Proc.devRef .tc main_v20) = val_main_v17 (F := F) (U (Proc.devRef .tc main_arg0)) := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- Each pixel's sum of unnormalised weights, second image: the reference's. -/
theorem before_v35 : after before U (Proc.devRef .tc main_v35) = val_main_v35 (F := F) (U (Proc.devRef .tc main_arg1)) := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- The region's first input: the first image in 16 rows of 16384 pixels. -/
theorem before_v0 : after before U (Proc.devRef .tc main_v0) = shapeCast S4x16x1x16384 (U (Proc.devRef .tc main_arg0)) shapeCasts_S4x1x512x512_S4x16x1x16384 := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- The region's second input: the second image in 16 rows of 16384 pixels. -/
theorem before_v1 : after before U (Proc.devRef .tc main_v1) = shapeCast S4x16x1x16384 (U (Proc.devRef .tc main_arg1)) shapeCasts_S4x1x512x512_S4x16x1x16384 := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- The region's third input: the first image's sums in 16 rows of 16384 pixels. -/
theorem before_v36 : after before U (Proc.devRef .tc main_v36) = shapeCast S4x16x1x16384 (val_main_v17 (F := F) (U (Proc.devRef .tc main_arg0))) shapeCasts_S4x262144x1_S4x16x1x16384 := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 4000000 in
/-- The region's fourth input: the second image's sums in 16 rows of 16384 pixels. -/
theorem before_v37 : after before U (Proc.devRef .tc main_v37) = shapeCast S4x16x1x16384 (val_main_v35 (F := F) (U (Proc.devRef .tc main_arg1))) shapeCasts_S4x262144x1_S4x16x1x16384 := by
  simp only [before, hostOps0, hostOps0_1, hostOps0_2, hostOps0_3, hostOps0_4, hostOps0_5, hostOps0_6, hostOps0_7, hostOps0_8,
    List.flatten_cons, List.flatten_nil, List.append_nil, List.cons_append, List.nil_append,
    TRef.binary, TRef.nullary, TRef.reshape, TRef.unary, TRef.toBuf, TRef.ofBuf, cast_eq]
  after_reads_simp
  rfl

set_option maxHeartbeats 8000000 in
/-- The loss: where the operations after the region find the reference's clipped images, per-pixel sums and joint
    histogram, they leave the reference's result. -/
theorem behind_v114 (x0 x1 : (⟨S4x1x512x512, .f32⟩ : BufTy).Contents (Elt F))
    (h3 : U (Proc.devRef .tc main_v3) = val_main_v1 (F := F) x0) (h5 : U (Proc.devRef .tc main_v5) = val_main_v3 (F := F) x1)
    (h20 : U (Proc.devRef .tc main_v20) = val_main_v17 (F := F) x0) (h35 : U (Proc.devRef .tc main_v35) = val_main_v35 (F := F) x1)
    (h38 : U (Proc.devRef .tc main_v38) = val_main_v54 (F := F) x0 x1) :
    after behind U (Proc.devRef .tc main_v114) = val_main_v84 (F := F) x0 x1 := by
  simp only [behind, hostOps1, hostOps1_1, hostOps1_2, hostOps1_3, hostOps1_4,
    List.flatten_cons, List.flatten_nil, List.append_nil, List.cons_append, List.nil_append,
    TRef.binary, TRef.nullary, TRef.reshape, TRef.unary, TRef.toBuf, TRef.ofBuf, cast_eq]
  after_reads_simp
  rw [h3, h5, h20, h35, h38]
  rfl

end Cert.KernelIdeal.Host

end
-- ==== Proof.Ref.lean ====
/- What the reference computes, read at an index: the bin centres, each pixel's weights, the sums that normalise
   them and the joint histogram. The second image's stages are the first's, applied to the second image. -/
module

public import proofs.«01_k».proof.Proof.Weight
public import proofs.«01_k».proof.Proof.Gen.ReferenceIdeal.Read
public import Idealize.ShloMosaic.Lib.ValueIdxCore
public import Idealize.ShloMosaic.Lib.Pipeline.Value

@[expose] public section

noncomputable section

namespace Cert.ReferenceIdeal.Ref

open Idealize.ShloMosaic Idealize.ShloMosaic.TcCoe Idealize.SL.Sem Idealize.ShloMosaic.ValueIdx
open Cert.ReferenceIdeal Cert.ReferenceIdeal.Gen Cert.ReferenceIdeal.Read Cert.Weight

/-- An image argument. -/
abbrev Img := (⟨S4x1x512x512, .f32⟩ : BufTy).Contents (Elt Ideal)

/-- The quotient of a bin's number by 63, as the reference computes it. -/
theorem step_apply (i : S63.Idx) : val_main_call2_v6 (F := Ideal) i = centre (i 0).val := by
  rw [val_main_call2_v6_apply, val_main_call2_v5_apply, val_main_call2_cst_0_apply]
  show Ideal.div (val_main_call2_v4 (F := Ideal) i) (Ideal.ofBits .f32 0x427C0000#32) = _
  have h : val_main_call2_v4 (F := Ideal) i = (((i 0).val : ℝ) : EReal) := by
    have hi : (i 0).val < 63 := (i 0).isLt
    have e : (BitVec.ofNat 32 (i 0).val).toInt = ((i 0).val : ℤ) := by
      rw [BitVec.toInt_eq_toNat_cond, BitVec.toNat_ofNat, Nat.mod_eq_of_lt (by omega), if_pos (by omega)]
    show (((BitVec.ofNat 32 (i 0).val).toInt : ℝ) : EReal) = _
    rw [e]; norm_cast
  rw [h, lit_63, Ideal.div_coe (by norm_num), ← EReal.coe_mul, one_div]
  rfl

/-- Bin `k`'s centre is `k / 63`. -/
theorem centre_apply (j : S64.Idx) : val_main_v4 (F := Ideal) j = centre (j 0).val := by
  have hj : (j 0).val < 64 := (j 0).isLt
  unfold val_main_v4
  by_cases h : (j 0).val < 63
  · rw [concatenate_pair_apply_left (s₁ := S63) (s₂ := S1) 0 _ _ _ j rfl (ix1 ⟨(j 0).val, h⟩)
      (fun b => by obtain rfl : b = 0 := Subsingleton.elim _ _; rfl)]
    rw [val_main_call2_v15_apply, val_main_call2_v11_apply, val_main_call2_v14_apply, val_main_call2_v9_apply, step_apply]
    have h0 : val_main_call2_v10 (F := Ideal) (ix1 ⟨(j 0).val, h⟩) = 0 := by
      rw [val_main_call2_v10_apply]; exact Ideal.ofBits_zero_f32
    have h1 : val_main_call2_v13 (F := Ideal) (ix1 ⟨(j 0).val, h⟩) = 1 := by
      rw [val_main_call2_v13_apply]; exact lit_one
    rw [h0, h1]
    show (0 : EReal) * _ + 1 * centre (j 0).val = centre (j 0).val
    rw [zero_mul, one_mul, zero_add]
  · have h63 : (j 0).val = 63 := by omega
    rw [concatenate_pair_apply_right (s₁ := S63) (s₂ := S1) 0 _ _ _ j rfl rfl (ix1 0)
      (fun b hb => absurd (Subsingleton.elim _ _) hb) (by show 0 + 63 = (j 0).val; omega)]
    rw [val_main_call2_v16_apply, h63]
    show Ideal.ofBits .f32 0x3F800000#32 = _
    rw [lit_one]; unfold centre; norm_num

/-- A pixel's unnormalised weight for a bin. -/
theorem exp_apply (x : Img) (i : S4x262144x64.Idx) :
    val_main_v15 (F := Ideal) x i = expR (val_main_v0 (F := Ideal) x (ix2 (i 0) (i 1))) (i 2).val := by
  rw [val_main_v15_apply, val_main_v14_apply, val_main_v13_apply, val_main_v12_apply, val_main_v11_apply, val_main_v10_apply,
    val_main_v9_apply, val_main_v7_apply, val_main_v8_apply, val_main_v5_apply, val_main_v6_apply, centre_apply,
    val_main_v1_apply, val_main_call0_v2_apply, val_main_call0_v4_apply, val_main_call0_v1_apply]
  have e : idx_main_v5 (idx_main_v7 i) = ix2 (i 0) (i 1) := by
    funext a; match a with
    | ⟨0, _⟩ => rfl
    | ⟨1, _⟩ => rfl
  rw [e]
  show Ideal.exp (Ideal.ofBits .f32 0xBF000000#32 *
    (Ideal.div (min (Ideal.ofBits .f32 0x3F800000#32) (max (Ideal.ofBits .f32 0x00000000#32) (val_main_v0 (F := Ideal) x (ix2 (i 0) (i 1)))) - centre (i 2).val)
        (Ideal.ofBits .f32 0x3F000000#32) *
      Ideal.div (min (Ideal.ofBits .f32 0x3F800000#32) (max (Ideal.ofBits .f32 0x00000000#32) (val_main_v0 (F := Ideal) x (ix2 (i 0) (i 1)))) - centre (i 2).val)
        (Ideal.ofBits .f32 0x3F000000#32))) = _
  rw [lit_neg_half, lit_one, lit_half, Ideal.ofBits_zero_f32]
  rfl

/-- A pixel's sum of unnormalised weights is not negative. -/
theorem sum_nonneg (x : Img) (i : S4x262144x1.Idx) : 0 ≤ val_main_v17 (F := Ideal) x i := by
  rw [val_main_v17_apply, val_main_v16_apply]
  refine add_nonneg (le_of_eq Ideal.ofBits_zero_f32.symm) (Finset.sum_nonneg fun k _ => ?_)
  rw [exp_apply]
  exact exp_nonneg _

/-- A pixel's normalised weight for a bin. -/
theorem weight_apply (x : Img) (i : S4x262144x64.Idx) :
    val_main_v21 (F := Ideal) x i
      = weightR (val_main_v0 (F := Ideal) x (ix2 (i 0) (i 1))) (val_main_v17 (F := Ideal) x (ix3 (i 0) (i 1) 0)) (i 2).val := by
  rw [val_main_v21_apply, exp_apply, val_main_v20_apply, val_main_v19_apply, val_main_v18_apply]
  have e : idx_main_v20 i = ix3 (i 0) (i 1) 0 := by
    funext a; match a with
    | ⟨0, _⟩ => rfl
    | ⟨1, _⟩ => rfl
    | ⟨2, _⟩ => rfl
  rw [e]
  rfl

/-- The second image's normalised weights are the first image's stages applied to it. -/
theorem weight_second (x : Img) : val_main_v39 (F := Ideal) x = val_main_v21 (F := Ideal) x := rfl
/-- So are its per-pixel sums. -/
theorem sum_second (x : Img) : val_main_v35 (F := Ideal) x = val_main_v17 (F := Ideal) x := rfl

/-- One pixel's normalised weight for bin `k`: pixel `n` of batch element `b`. -/
def w (x : Img) (b : Fin 4) (n : Fin 262144) (k : ℕ) : EReal :=
  weightR (val_main_v0 (F := Ideal) x (ix2 b n)) (val_main_v17 (F := Ideal) x (ix3 b n 0)) k

/-- The joint histogram: over the pixels, the sum of the products of the two images' weights. -/
theorem joint_apply (x y : Img) (i : S4x64x64.Idx) :
    val_main_v54 (F := Ideal) x y i = ∑ n : Fin 262144, w x (i 0) n (i 1).val * w y (i 0) n (i 2).val := by
  rw [val_main_v54_apply]
  refine Finset.sum_congr rfl fun n _ => ?_
  rw [weight_second, weight_apply, weight_apply]
  rfl

end Cert.ReferenceIdeal.Ref

end
-- ==== Proof.Region.lean ====
/- What the region's array holds after the run: the reference's joint histogram. Each batch element's block of the
   array is accumulated over 16 blocks of 16384 pixels and written back once, after the last. -/
module

public import proofs.«01_k».proof.Proof.Block
public import proofs.«01_k».proof.Proof.Host
public import proofs.«01_k».proof.Proof.Ref

@[expose] public section

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Host Cert.KernelIdeal.Block Cert.Weight
open Cert.ReferenceIdeal.Read (val_main_v0 val_main_v2 val_main_v17 val_main_v35 val_main_v54)
open Cert.ReferenceIdeal.Ref (w sum_nonneg sum_second joint_apply)

/-! ## The two cases of the body -/

section Cases

variable {F : FTy → Type} [FloatOps F] [Named F]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

variable (c : Dev nD) (i : grid0.Coords) (a2 : Memref sig .tc .vmem S1x1x1x16384 .f32) (h2 : a2.IsWhole)
  (a3 : Memref sig .tc .vmem S1x1x1x16384 .f32) (h3 : a3.IsWhole) (a4 : Memref sig .tc .vmem S1x1x1x16384 .f32) (h4 : a4.IsWhole)
  (a5 : Memref sig .tc .vmem S1x1x1x16384 .f32) (h5 : a5.IsWhole) (a6 : Memref sig .tc .vmem S1x64x64 .f32) (h6 : a6.IsWhole)
  (x y zx zy : Vec F S1x1x1x16384 .f32)

/-- At a batch element's first block the body leaves the block's store over the zero accumulator. -/
theorem first_block (hc : cond0_0 i) : out0_A_4 c i a2 h2 a3 h3 a4 h4 a5 h5 a6 h6 hc x y zx zy
    = k0_pay1 (k0_pay3 x) (k0_pay4 y) zx zy (k0_pay2 (F := F)) := by
  unfold out0_A_4
  rw [View.read_writes_eq_canon _ _ _ (cover0_A_4 c i a2 h2 a3 h3 a4 h4 a5 h5 a6 h6 hc x y zx zy)]
  unfold kernelRun0_A
  dsimp only
  sl_unfold_words
  rw [View.canon_cons_unit_zero (S := S1x64x64) zeros3, View.readCov_unit_zero (S := S1x64x64) _ zeros3]
  simp only [View.readAt_eq_ld, h2.read_unread, h3.read_unread, h4.read_unread, h5.read_unread,
    View.ld_unit_zero (S := S1x1x1x16384) zeros4]

/-- At each later block it leaves the block's store over what the block before left. -/
theorem later_block (hc : ¬cond0_0 i) (acc : Vec F S1x64x64 .f32) : out0_B_4 c i a2 h2 a3 h3 a4 h4 a5 h5 a6 h6 hc x y zx zy acc
    = k0_pay1 (k0_pay3 x) (k0_pay4 y) zx zy acc := by
  unfold out0_B_4
  rw [View.read_writes_eq_canon _ _ _ (cover0_B_4 c i a2 h2 a3 h3 a4 h4 a5 h5 a6 h6 hc x y zx zy acc)]
  unfold kernelRun0_B
  dsimp only
  sl_unfold_words
  rw [View.canon_unit_zero zeros3]
  simp only [View.readAt_eq_ld, h2.read_unread, h3.read_unread, h4.read_unread, h5.read_unread, h6.read_unread,
    View.ld_unit_zero (S := S1x1x1x16384) zeros4, View.ld_unit_zero (S := S1x64x64) zeros3]

end Cases

/-! ## The input blocks -/

/-- A reshape of a reshape is one reshape. -/
theorem cast_cast {s t u : Shape} {α : Type} (v : s.Idx → α) (h : s.ShapeCasts t) (h' : t.ShapeCasts u) (h'' : s.ShapeCasts u) :
    shapeCast u v h'' = shapeCast u (shapeCast t v h) h' :=
  funext fun i => congrArg v (by
    show Shape.reshapeEquiv _ i = Shape.reshapeEquiv _ (Shape.reshapeEquiv _ i)
    rw [Shape.reshapeEquiv_reshapeEquiv])

theorem casts_rows : S4x262144.ShapeCasts S4x16x1x16384 := by decide

/-- The pixel at place `p` of row `s`. -/
def pixel (s : ℕ) (p : Fin 16384) : Fin 262144 := ⟨16384 * (s % 16) + p.val, by have := p.isLt; omega⟩
/-- The batch element numbered `b`. -/
def batch (b : ℕ) : Fin 4 := ⟨b % 4, Nat.mod_lt _ (by decide)⟩

variable (m : (ℓ : Loc nD τ sig) → Buf (Elt Ideal) ℓ) (c : Dev nD)

/-- The first image, as the program is given it. -/
abbrev imgX : Cert.ReferenceIdeal.Ref.Img := m ((c : Thread nD τ).loc main_arg0)
/-- The second image. -/
abbrev imgY : Cert.ReferenceIdeal.Ref.Img := m ((c : Thread nD τ).loc main_arg1)

/-- An image in rows, read in row `s` at place `p`. -/
theorem rows_apply (v : S4x262144.Idx → EReal) (j : S4x16x1x16384.Idx) :
    shapeCast S4x16x1x16384 v casts_rows j = v (ix2 (batch (j 0).val) (pixel (j 1).val (j 3))) := by
  have h0 : (j 0).val < 4 := (j 0).isLt
  have h1 : (j 1).val < 16 := (j 1).isLt
  have h2 : (j 2).val < 1 := (j 2).isLt
  refine shapeCast_apply v _ j _ ?_
  rw [Shape.rowMajor_val_two, Shape.rowMajor_val_four]
  show (j 0).val % 4 * 262144 + (16384 * ((j 1).val % 16) + (j 3).val) = (((j 0).val * 16 + (j 1).val) * 1 + (j 2).val) * 16384 + (j 3).val
  omega

/-- The per-pixel sums in rows, read in row `s` at place `p`. -/
theorem sums_apply (v : S4x262144x1.Idx → EReal) (j : S4x16x1x16384.Idx) :
    shapeCast S4x16x1x16384 v shapeCasts_S4x262144x1_S4x16x1x16384 j = v (ix3 (batch (j 0).val) (pixel (j 1).val (j 3)) 0) := by
  have h0 : (j 0).val < 4 := (j 0).isLt
  have h1 : (j 1).val < 16 := (j 1).isLt
  have h2 : (j 2).val < 1 := (j 2).isLt
  refine shapeCast_apply v _ j _ ?_
  rw [Shape.rowMajor_val_three, Shape.rowMajor_val_four]
  show ((j 0).val % 4 * 262144 + (16384 * ((j 1).val % 16) + (j 3).val)) * 1 + 0 = (((j 0).val * 16 + (j 1).val) * 1 + (j 2).val) * 16384 + (j 3).val
  omega

/-- The region's four input arrays. -/
theorem V_v0 : V m c main_v0 = shapeCast S4x16x1x16384 (val_main_v0 (F := Ideal) (imgX m c)) casts_rows :=
  (before_v0 (F := Ideal) _).trans (cast_cast _ _ _ _)
theorem V_v1 : V m c main_v1 = shapeCast S4x16x1x16384 (val_main_v0 (F := Ideal) (imgY m c)) casts_rows :=
  (before_v1 (F := Ideal) _).trans (cast_cast _ _ _ _)
theorem V_v36 : V m c main_v36 = shapeCast S4x16x1x16384 (val_main_v17 (F := Ideal) (imgX m c)) shapeCasts_S4x262144x1_S4x16x1x16384 :=
  before_v36 (F := Ideal) _
theorem V_v37 : V m c main_v37 = shapeCast S4x16x1x16384 (val_main_v17 (F := Ideal) (imgY m c)) shapeCasts_S4x262144x1_S4x16x1x16384 :=
  before_v37 (F := Ideal) _

/-- Point `t` reads row `t mod 16` of batch element `t / 16` of each input. -/
theorem in_index : ∀ t : Fin cfg0.N,
    (win0_0.index t (0 : Fin 4) = t.val / 16 ∧ win0_0.index t (1 : Fin 4) = t.val % 16 ∧ win0_0.index t (3 : Fin 4) = 0)
    ∧ (win0_1.index t (0 : Fin 4) = t.val / 16 ∧ win0_1.index t (1 : Fin 4) = t.val % 16 ∧ win0_1.index t (3 : Fin 4) = 0)
    ∧ (win0_2.index t (0 : Fin 4) = t.val / 16 ∧ win0_2.index t (1 : Fin 4) = t.val % 16 ∧ win0_2.index t (3 : Fin 4) = 0)
    ∧ (win0_3.index t (0 : Fin 4) = t.val / 16 ∧ win0_3.index t (1 : Fin 4) = t.val % 16 ∧ win0_3.index t (3 : Fin 4) = 0) :=
  (by decide +kernel : ∀ t : Fin grid0.N, _)

/-- The first image's block at point `t`. -/
theorem block_x (t : Fin cfg0.N) (p : Fin 16384) : (iblk m c 0 t : Vec Ideal S1x1x1x16384 .f32) (at0 p)
    = val_main_v0 (F := Ideal) (imgX m c) (ix2 (batch (t.val / 16)) (pixel (t.val % 16) p)) := by
  obtain ⟨⟨e0, e1, e3⟩, -, -, -⟩ := in_index t
  unfold iblk
  rw [View.read_apply]
  show V m c main_v0 _ = _
  rw [V_v0, rows_apply]
  refine congrArg₂ (fun b n => val_main_v0 (F := Ideal) (imgX m c) (ix2 b n)) (congrArg batch ?_) (congrArg₂ pixel ?_ (Fin.ext ?_))
  · show win0_0.index t (0 : Fin 4) * 1 + 1 * 0 = _; omega
  · show win0_0.index t (1 : Fin 4) * 1 + 1 * 0 = _; omega
  · show win0_0.index t (3 : Fin 4) * 16384 + 1 * p.val = _; omega

/-- The second image's block at point `t`. -/
theorem block_y (t : Fin cfg0.N) (p : Fin 16384) : (iblk m c 1 t : Vec Ideal S1x1x1x16384 .f32) (at0 p)
    = val_main_v0 (F := Ideal) (imgY m c) (ix2 (batch (t.val / 16)) (pixel (t.val % 16) p)) := by
  obtain ⟨-, ⟨e0, e1, e3⟩, -, -⟩ := in_index t
  unfold iblk
  rw [View.read_apply]
  show V m c main_v1 _ = _
  rw [V_v1, rows_apply]
  refine congrArg₂ (fun b n => val_main_v0 (F := Ideal) (imgY m c) (ix2 b n)) (congrArg batch ?_) (congrArg₂ pixel ?_ (Fin.ext ?_))
  · show win0_1.index t (0 : Fin 4) * 1 + 1 * 0 = _; omega
  · show win0_1.index t (1 : Fin 4) * 1 + 1 * 0 = _; omega
  · show win0_1.index t (3 : Fin 4) * 16384 + 1 * p.val = _; omega

/-- The first image's per-pixel sums at point `t`. -/
theorem block_zx (t : Fin cfg0.N) (p : Fin 16384) : (iblk m c 2 t : Vec Ideal S1x1x1x16384 .f32) (at0 p)
    = val_main_v17 (F := Ideal) (imgX m c) (ix3 (batch (t.val / 16)) (pixel (t.val % 16) p) 0) := by
  obtain ⟨-, -, ⟨e0, e1, e3⟩, -⟩ := in_index t
  unfold iblk
  rw [View.read_apply]
  show V m c main_v36 _ = _
  rw [V_v36, sums_apply]
  refine congrArg₂ (fun b n => val_main_v17 (F := Ideal) (imgX m c) (ix3 b n 0)) (congrArg batch ?_) (congrArg₂ pixel ?_ (Fin.ext ?_))
  · show win0_2.index t (0 : Fin 4) * 1 + 1 * 0 = _; omega
  · show win0_2.index t (1 : Fin 4) * 1 + 1 * 0 = _; omega
  · show win0_2.index t (3 : Fin 4) * 16384 + 1 * p.val = _; omega

/-- The second image's per-pixel sums at point `t`. -/
theorem block_zy (t : Fin cfg0.N) (p : Fin 16384) : (iblk m c 3 t : Vec Ideal S1x1x1x16384 .f32) (at0 p)
    = val_main_v17 (F := Ideal) (imgY m c) (ix3 (batch (t.val / 16)) (pixel (t.val % 16) p) 0) := by
  obtain ⟨-, -, -, ⟨e0, e1, e3⟩⟩ := in_index t
  unfold iblk
  rw [View.read_apply]
  show V m c main_v37 _ = _
  rw [V_v37, sums_apply]
  refine congrArg₂ (fun b n => val_main_v17 (F := Ideal) (imgY m c) (ix3 b n 0)) (congrArg batch ?_) (congrArg₂ pixel ?_ (Fin.ext ?_))
  · show win0_3.index t (0 : Fin 4) * 1 + 1 * 0 = _; omega
  · show win0_3.index t (1 : Fin 4) * 1 + 1 * 0 = _; omega
  · show win0_3.index t (3 : Fin 4) * 16384 + 1 * p.val = _; omega

/-! ## The accumulation -/

/-- Row `s` of batch element `b`'s share of the joint histogram at bins `k` and `l`, in the reference's weights. -/
def share (b s k l : ℕ) : EReal :=
  ∑ p : Fin 16384, w (imgX m c) (batch b) (pixel s p) k * w (imgY m c) (batch b) (pixel s p) l

/-- A block's sum of products is its row's share. -/
theorem part_eq (t : Fin cfg0.N) (k l : ℕ) : part (iblk m c 0 t) (iblk m c 1 t) (iblk m c 2 t) (iblk m c 3 t) k l
    = share m c (t.val / 16) (t.val % 16) k l := by
  refine Finset.sum_congr rfl fun p _ => ?_
  rw [block_x, block_y, block_zx, block_zy, weightK_eq _ (sum_nonneg _ _), weightK_eq _ (sum_nonneg _ _)]
  rfl

/-- After point `n` the accumulator holds the shares of the batch element's rows so far. -/
theorem acc_eq : ∀ (n : ℕ) (h : n < cfg0.N) (i : S1x64x64.Idx),
    outsAt0 m c n h i = ∑ s ∈ Finset.range (n % 16 + 1), share m c (n / 16) s (i 1).val (i 2).val := by
  have start : ∀ (n : ℕ) (h : n < cfg0.N) (i : S1x64x64.Idx), n % 16 = 0 →
      outsAt0 m c n h i = ∑ s ∈ Finset.range (n % 16 + 1), share m c (n / 16) s (i 1).val (i 2).val := by
    intro n h i h0
    refine (congrFun (outsAt0_A m c ⟨n, h⟩ h0) i).trans ?_
    rw [first_block, store_apply, zero_apply, zero_add, part_eq, h0, Finset.sum_range_one]
  intro n
  induction n with
  | zero => exact fun h i => start 0 h i rfl
  | succ n ih =>
    intro h i
    by_cases h0 : (n + 1) % 16 = 0
    · exact start _ h i h0
    · refine (congrFun (outsAt0_B m c ⟨n + 1, h⟩ h0) i).trans ?_
      rw [later_block, store_apply, part_eq]
      show outsAt0 m c n _ i + share m c ((n + 1) / 16) ((n + 1) % 16) _ _ = _
      rw [ih, show (n + 1) / 16 = n / 16 by omega, show (n + 1) % 16 = n % 16 + 1 by omega, Finset.sum_range_succ _ (n % 16 + 1)]

/-- The reference's joint histogram is the sum of its 16 rows' shares. -/
theorem joint_eq (i : S4x64x64.Idx) : val_main_v54 (F := Ideal) (imgX m c) (imgY m c) i
    = ∑ s ∈ Finset.range 16, share m c (i 0).val s (i 1).val (i 2).val := by
  have h0 : (i 0).val < 4 := (i 0).isLt
  have hb : batch (i 0).val = i 0 := Fin.ext (Nat.mod_eq_of_lt h0)
  rw [joint_apply, ← Equiv.sum_comp (finProdFinEquiv (m := 16) (n := 16384)), Fintype.sum_prod_type, Finset.sum_range]
  refine Finset.sum_congr rfl fun s _ => Finset.sum_congr rfl fun p _ => ?_
  have e : (finProdFinEquiv (s, p) : Fin (16 * 16384)) = pixel s.val p := by
    apply Fin.ext
    have hs := s.isLt
    show p.val + 16384 * s.val = 16384 * (s.val % 16) + p.val
    omega
  rw [e, hb]

/-! ## The array -/

/-- Point `t`'s block of the result array is batch element `t / 16`'s. -/
theorem out_index : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- A batch element's last point writes back its block of the joint histogram. -/
theorem written (t : Fin cfg0.N) (hf : (cfg0.win 4).flush t = true) :
    (dats m 0 c).flushed 4 t = ((cfg0.win 4).blk t).view.read (Elt Ideal) (val_main_v54 (F := Ideal) (imgX m c) (imgY m c)) := by
  have hm : t.val % 16 = 15 := (flush0_4 t).mp hf
  obtain ⟨e0, e1, e2⟩ := out_index t
  show (cfg0.win 4).cut (grid0.coords t) ((dats m 0 c).after 4 t) = _
  rw [after0_4]
  funext y
  rw [View.read_apply]
  refine (acc_eq m c t.val t.isLt _).trans (Eq.trans ?_ (joint_eq m c _).symm)
  rw [hm]
  have hy0 : (y 0).val < 1 := (y 0).isLt
  refine Finset.sum_congr rfl fun s _ => ?_
  have b0 : (((cfg0.win 4).blk t).view.emb y 0).val = t.val / 16 := by
    show win0_4.index t (0 : Fin 3) * 1 + 1 * (y 0).val = _; omega
  have b1 : (((cfg0.win 4).blk t).view.emb y 1).val = (y 1).val := by
    show win0_4.index t (1 : Fin 3) * 64 + 1 * (y 1).val = _; omega
  have b2 : (((cfg0.win 4).blk t).view.emb y 2).val = (y 2).val := by
    show win0_4.index t (2 : Fin 3) * 64 + 1 * (y 2).val = _; omega
  exact (congrArg₂ (fun k l => share m c (t.val / 16) s k l) b1.symm b2.symm).trans
    (congrArg (fun b => share m c b s _ _) b0.symm)

/-- After the run the region's array is the reference's joint histogram. -/
theorem array_eq : (dats m 0 c).arrAt 4 cfg0.N = val_main_v54 (F := Ideal) (imgX m c) (imgY m c) :=
  (dats m 0 c).arrAt_eq_of_cover 4 _ (written m c) fun i => by
    have h0 : (i 0).val < 4 := (i 0).isLt
    have h1 : (i 1).val < 64 := (i 1).isLt
    have h2 : (i 2).val < 64 := (i 2).isLt
    have hN : cfg0.N = 64 := N_0
    let t : Fin cfg0.N := ⟨16 * (i 0).val + 15, by omega⟩
    have ht : t.val = 16 * (i 0).val + 15 := rfl
    obtain ⟨e0, e1, e2⟩ := out_index t
    refine ⟨t, (flush0_4 t).mpr (by omega), ?_⟩
    show i ∈ ((View.whole main_v38).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 64 ≤ (i 1).val ∧ (i 1).val < win0_4.index t (1 : Fin 3) * 64 + 64; omega
    | ⟨2, _⟩ => show win0_4.index t (2 : Fin 3) * 64 ≤ (i 2).val ∧ (i 2).val < win0_4.index t (2 : Fin 3) * 64 + 64; omega

end Cert.KernelIdeal.Region

end
-- ==== Proof.Claims.lean ====
/- The five claims: each program's frame, the one constant's value, and the equality of the two losses. -/
module

public import proofs.«01_k».proof.Defs
public import proofs.«01_k».proof.Proof.Region
public import proofs.«01_k».proof.Proof.Gen.Kernel.Frame
public import proofs.«01_k».proof.Proof.Gen.ReferenceIdeal.Run
public import Idealize.ShloMosaic.Lib.Quiescent

@[expose] public section

noncomputable section

namespace Cert.KernelIdeal.Loss

open Idealize.ShloMosaic Idealize.ShloMosaic.TcCoe Idealize.SL.Sem
open Cert.KernelIdeal Cert.KernelIdeal.Gen Cert.KernelIdeal.Host Cert.KernelIdeal.Region
open Cert.ReferenceIdeal.Read (val_main_v84)

variable (m : (ℓ : Loc nD τ sig) → Buf (Elt Ideal) ℓ) (ρ : Dev nD → PrngReg)

/-- A buffer that is no array of the region keeps through it what the operations before left. -/
theorem kept (c : Dev nD) (b : Ref sig .tc) (hb : ∀ w, Pipeline.arrRef spec0 w ≠ b) :
    Pipeline.withArrays spec0 c (V0 m c) (fun w => (dats m 0 c).arrAt w cfg0.N) (Proc.devRef .tc b) = V0 m c (Proc.devRef .tc b) :=
  Pipeline.withArrays_of_ne _ c (V0 m c) _ b hb

/-- The operations after the region leave the reference's loss of the two images. -/
theorem loss_eq (c : Dev nD) :
    Pipeline.afterTail₀ cfgs (dats m) 0 (V0 m) [hostOps1, hostOps1_1, hostOps1_2, hostOps1_3, hostOps1_4] c main_v114
      = val_main_v84 (F := Ideal) (imgX m c) (imgY m c) := by
  unfold Pipeline.afterTail₀
  refine behind_v114 (F := Ideal) _ (imgX m c) (imgY m c) ?_ ?_ ?_ ?_ ?_
  · exact (kept m c main_v3 (by decide)).trans (before_v3 (F := Ideal) _)
  · exact (kept m c main_v5 (by decide)).trans (before_v5 (F := Ideal) _)
  · exact (kept m c main_v20 (by decide)).trans (before_v20 (F := Ideal) _)
  · exact (kept m c main_v35 (by decide)).trans (before_v35 (F := Ideal) _)
  · exact (Pipeline.withArrays_arr spec0 (by decide) c (V0 m c) (fun w => (dats m 0 c).arrAt w cfg0.N) 4).trans (array_eq m c)

/-- Every run of the kernel program ends with its result at the reference's loss and its arguments unchanged. -/
theorem run : θ_run (defs (F := Ideal)) (onTc (τ := τ) (main (F := Ideal))) ⟨m, fun _ => 0, ρ⟩ fun r => ∀ c : Dev nD,
    r.2.mem ((c.tc : Thread nD τ).loc main_v114) = val_main_v84 (F := Ideal) (imgX m c) (imgY m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run _ _ _).mono (fun _ h c =>
    ⟨((h c).2 main_v114 (Pipeline.mem_restRefs_of main_v114 (by decide) (by decide))).trans (loss_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Loss

namespace Cert.Proof.Claims

open Idealize.ShloMosaic Idealize.ShloMosaic.TcCoe Idealize.SL.Sem

/-- The kernel program runs, leaves its arguments and brings every counter back to zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant `r63` stands for 1/63. -/
theorem preserves : Cert.preserves_Kernel_KernelIdeal :=
  IdealRules.named_const.statement Cert.KernelIdeal.κ "r63" .f32 0x3C820821#32 ((63⁻¹ : ℝ) : EReal) rfl

/-- From equal arguments the idealized kernel program and the reference end with equal losses. -/
theorem algebraic : Cert.algebraic_KernelIdeal_ReferenceIdeal := by
  intro m ρ m' ρ' _ hagree
  refine ⟨_, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v84_eq (F := Ideal) m' c).trans
    (congrArg₂ (Cert.ReferenceIdeal.Read.val_main_v84 (F := Ideal)) (hagree c).1 (hagree c).2)

end Cert.Proof.Claims

end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

/-- Everything claimed: the frames of the kernel program, of its idealization and of the reference; that the one named
    constant is what it stands for; and that idealization and reference compute the same loss. -/
theorem claim : Cert.Claim :=
  ⟨Cert.Kernel.Gen.facts, Cert.KernelIdeal.Gen.facts, Cert.ReferenceIdeal.Gen.facts,
    Claims.frame_p, Claims.frame_pi, Claims.frame_ri, Claims.preserves, Claims.algebraic⟩

end Cert.Proof

end
